-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x7168 : Shape := ⟨3, ![1, 256, 7168]⟩
abbrev S1x256x1 : Shape := ⟨3, ![1, 256, 1]⟩
abbrev S7168x4096 : Shape := ⟨2, ![7168, 4096]⟩
abbrev S4096 : Shape := ⟨1, ![4096]⟩
abbrev S1x256x4096 : Shape := ⟨3, ![1, 256, 4096]⟩
abbrev S256x7168 : Shape := ⟨2, ![256, 7168]⟩
abbrev S256x1 : Shape := ⟨2, ![256, 1]⟩
abbrev S1x4096 : Shape := ⟨2, ![1, 4096]⟩
abbrev S256x4096 : Shape := ⟨2, ![256, 4096]⟩
abbrev S7168x512 : Shape := ⟨2, ![7168, 512]⟩
abbrev S1x512 : Shape := ⟨2, ![1, 512]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S1x256x7168, .fp8e4m3⟩
  | .hbm, ⟨1, _⟩ => ⟨S1x256x1, .f32⟩
  | .hbm, ⟨2, _⟩ => ⟨S7168x4096, .fp8e4m3⟩
  | .hbm, ⟨3, _⟩ => ⟨S4096, .f32⟩
  | .hbm, ⟨4, _⟩ => ⟨S1x256x4096, .bf16⟩
  | .hbm, ⟨5, _⟩ => ⟨S256x7168, .fp8e4m3⟩
  | .hbm, ⟨6, _⟩ => ⟨S256x1, .f32⟩
  | .hbm, ⟨7, _⟩ => ⟨S1x4096, .f32⟩
  | .hbm, ⟨8, _⟩ => ⟨S256x4096, .bf16⟩
  | .hbm, ⟨9, _⟩ => ⟨S256x4096, .bf16⟩
  | .hbm, ⟨10, _⟩ => ⟨S1x256x4096, .bf16⟩
  | .local _ .vmem, ⟨0, _⟩ => ⟨S256x7168, .fp8e4m3⟩
  | .local _ .vmem, ⟨1, _⟩ => ⟨S256x1, .f32⟩
  | .local _ .vmem, ⟨2, _⟩ => ⟨S7168x512, .fp8e4m3⟩
  | .local _ .vmem, ⟨3, _⟩ => ⟨S7168x512, .fp8e4m3⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S1x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x256x7168 : Shape := ⟨3, ![1, 256, 7168]⟩
abbrev S1x256x1 : Shape := ⟨3, ![1, 256, 1]⟩
abbrev S7168x4096 : Shape := ⟨2, ![7168, 4096]⟩
abbrev S4096 : Shape := ⟨1, ![4096]⟩
abbrev S1x256x4096 : Shape := ⟨3, ![1, 256, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S1x256x7168, .fp8e4m3⟩
  | .hbm, ⟨1, _⟩ => ⟨S1x256x1, .f32⟩
  | .hbm, ⟨2, _⟩ => ⟨S7168x4096, .fp8e4m3⟩
  | .hbm, ⟨3, _⟩ => ⟨S4096, .f32⟩
  | .hbm, ⟨4, _⟩ => ⟨S1x256x4096, .bf16⟩
  | .hbm, ⟨5, _⟩ => ⟨S1x256x4096, .bf16⟩
  | .local _ .vmem, ⟨0, _⟩ => ⟨S1x256x7168, .fp8e4m3⟩
  | .local _ .vmem, ⟨1, _⟩ => ⟨S1x256x1, .f32⟩
  | .local _ .vmem, ⟨2, _⟩ => ⟨S7168x4096, .fp8e4m3⟩
  | .local _ .vmem, ⟨3, _⟩ => ⟨S4096, .f32⟩
  | .local _ .vmem, ⟨4, _⟩ => ⟨S1x256x4096, .bf16⟩
  | .local _ .vmem, ⟨5, _⟩ => ⟨S1x256x4096, .bf16⟩
  | _, _ => ⟨S1x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Value.Entry.lean ====
/-
  The mathematics of the certificate, apart from either program: one element of the result, as a function of the row of
  activations, the column of weights, their two scales and the residual it is made of.
-/
module

public import Idealize.ShloMosaic.PureOps.Ideal

@[expose] public section

noncomputable section

namespace Cert.Down

/-- One element of the result: the product of a row of 7168 activations with a column of 7168 weights, scaled by the
    row's scale and then by the column's, and the residual added. -/
def entry (x w : Fin 7168 → EReal) (rowScale colScale residual : EReal) : EReal :=
  (∑ k, x k * w k) * rowScale * colScale + residual

end Cert.Down

end
-- ==== Proof.Value.Block.lean ====
/-
  What the kernel computes at one grid point: element (r, q) of its (256, 512) block.
-/
module

public import proofs.«01_k».proof.Proof.Value.Entry
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic

/-- Over the extended reals, element (r, q) of the block that the kernel body stores is `entry` of row r of the
    activations, column q of the block of weights, row r's scale, column q's scale and element (r, q) of the block of
    the residual: the casts between formats are the identity, and the accumulator starts at zero. -/
theorem pay_apply (x : Vec Ideal S256x7168 .fp8e4m3) (w : Vec Ideal S7168x512 .fp8e4m3) (xs : Vec Ideal S256x1 .f32)
    (ws : Vec Ideal S1x512 .f32) (res : Vec Ideal S256x512 .bf16) (r : Fin 256) (q : Fin 512) :
    k0_pay1 (F := Ideal) x w xs ws res (ix2 r q)
      = Down.entry (fun k => x (ix2 r k)) (fun k => w (ix2 k q)) (xs (ix2 r (0 : Fin 1))) (ws (ix2 (0 : Fin 1) q))
          (res (ix2 r q)) := by
  unfold Down.entry
  pointwise [k0_pay1]

end Cert.KernelIdeal.Block

end
-- ==== Proof.Value.Array.lean ====
/-
  What the kernel's arrays hold: the pallas_call's result array after its eight grid points, and the program's result
  after the reshape that follows, as functions of the program's arguments.
-/
module

public import proofs.«01_k».proof.Proof.Value.Block
public import proofs.«01_k».proof.Proof.Gen.KernelIdeal.Frame
public import Idealize.ShloMosaic.Lib.Pipeline.Value

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's first argument at device `c`, the activations, as an array of extended reals. -/
abbrev argX (c : Dev nD) : Vec Ideal S1x256x7168 .fp8e4m3 := m ((c : Thread nD τ).loc main_arg0)
/-- The second argument, one scale for each row of the activations. -/
abbrev argXs (c : Dev nD) : Vec Ideal S1x256x1 .f32 := m ((c : Thread nD τ).loc main_arg1)
/-- The third argument, the weights. -/
abbrev argW (c : Dev nD) : Vec Ideal S7168x4096 .fp8e4m3 := m ((c : Thread nD τ).loc main_arg2)
/-- The fourth argument, one scale for each column of the weights. -/
abbrev argWs (c : Dev nD) : Vec Ideal S4096 .f32 := m ((c : Thread nD τ).loc main_arg3)
/-- The fifth argument, the residual. -/
abbrev argR (c : Dev nD) : Vec Ideal S1x256x4096 .bf16 := m ((c : Thread nD τ).loc main_arg4)

/-! ## The operands the region finds: the arguments, reshaped by the host -/

/-- The first operand is the activations without their batch axis. -/
theorem v0_apply (c : Dev nD) (r : Fin 256) (k : Fin 7168) :
    (V m c main_v0 : Vec Ideal S256x7168 .fp8e4m3) (ix2 r k) = argX m c (ix3 (0 : Fin 1) r k) := by
  have h : V m c main_v0 = shapeCast S256x7168 (argX m c) shapeCasts_S1x256x7168_S256x7168 := by
    show StableHlo.after (List.flatten [hostOps0]) (fun b => m (c, b)) (Proc.devRef .tc main_v0) = _
    simp only [hostOps0, List.flatten_cons, List.flatten_nil, List.append_nil, List.cons_append, List.nil_append]
    after_results
    rfl
  rw [h]
  pointwise

/-- The second is the row scales without their batch axis. -/
theorem v1_apply (c : Dev nD) (r : Fin 256) :
    (V m c main_v1 : Vec Ideal S256x1 .f32) (ix2 r (0 : Fin 1)) = argXs m c (ix3 (0 : Fin 1) r (0 : Fin 1)) := by
  have h : V m c main_v1 = shapeCast S256x1 (argXs m c) shapeCasts_S1x256x1_S256x1 := by
    show StableHlo.after (List.flatten [hostOps0]) (fun b => m (c, b)) (Proc.devRef .tc main_v1) = _
    simp only [hostOps0, List.flatten_cons, List.flatten_nil, List.append_nil, List.cons_append, List.nil_append]
    after_results
    rfl
  rw [h]
  pointwise

/-- The fourth is the column scales as one row. -/
theorem v2_apply (c : Dev nD) (n : Fin 4096) :
    (V m c main_v2 : Vec Ideal S1x4096 .f32) (ix2 (0 : Fin 1) n) = argWs m c (ix1 n) := by
  have h : V m c main_v2 = shapeCast S1x4096 (argWs m c) shapeCasts_S4096_S1x4096 := by
    show StableHlo.after (List.flatten [hostOps0]) (fun b => m (c, b)) (Proc.devRef .tc main_v2) = _
    simp only [hostOps0, List.flatten_cons, List.flatten_nil, List.append_nil, List.cons_append, List.nil_append]
    after_results
    rfl
  rw [h]
  pointwise

/-- The fifth is the residual without its batch axis. -/
theorem v3_apply (c : Dev nD) (r : Fin 256) (n : Fin 4096) :
    (V m c main_v3 : Vec Ideal S256x4096 .bf16) (ix2 r n) = argR m c (ix3 (0 : Fin 1) r n) := by
  have h : V m c main_v3 = shapeCast S256x4096 (argR m c) shapeCasts_S1x256x4096_S256x4096 := by
    show StableHlo.after (List.flatten [hostOps0]) (fun b => m (c, b)) (Proc.devRef .tc main_v3) = _
    simp only [hostOps0, List.flatten_cons, List.flatten_nil, List.append_nil, List.cons_append, List.nil_append]
    after_results
    rfl
  rw [h]
  pointwise

/-! ## One point's blocks -/

/-- Where each window's block lies at grid point `t`: the activations and row scales whole, the other four at column
    `512 * t`. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- Column `q` of point `t`'s block is this column of the whole array. -/
def col (t : Fin cfg0.N) (q : Fin 512) : Fin 4096 :=
  ⟨t.val * 512 + q.val, by have ht : t.val < 8 := lt_of_lt_of_eq t.isLt N_0; omega⟩

/-- Element (r, q) of the activations' block is element (r, q) of the activations. -/
theorem emb0 (t : Fin cfg0.N) (r : Fin 256) (q : Fin 7168) :
    ((cfg0.win 0).blk t).view.emb (ix2 r q) = ix2 r (q) := by
  obtain ⟨e0, e1⟩ := (idx_facts t).1
  funext a; apply Fin.ext
  match a with
  | ⟨0, _⟩ => show win0_0.index t (0 : Fin 2) * 256 + 1 * r.val = r.val; omega
  | ⟨1, _⟩ => show win0_0.index t (1 : Fin 2) * 7168 + 1 * q.val = q.val; rw [e1]; omega

/-- The same of the row scales. -/
theorem emb1 (t : Fin cfg0.N) (r : Fin 256) (q : Fin 1) :
    ((cfg0.win 1).blk t).view.emb (ix2 r q) = ix2 r (q) := by
  obtain ⟨e0, e1⟩ := (idx_facts t).2.1
  funext a; apply Fin.ext
  match a with
  | ⟨0, _⟩ => show win0_1.index t (0 : Fin 2) * 256 + 1 * r.val = r.val; omega
  | ⟨1, _⟩ => show win0_1.index t (1 : Fin 2) * 1 + 1 * q.val = q.val; rw [e1]; omega

/-- Element (r, q) of the block of weights at point `t` is element (r, `col t q`) of the weights. -/
theorem emb2 (t : Fin cfg0.N) (r : Fin 7168) (q : Fin 512) :
    ((cfg0.win 2).blk t).view.emb (ix2 r q) = ix2 r (col t q) := by
  obtain ⟨e0, e1⟩ := (idx_facts t).2.2.1
  funext a; apply Fin.ext
  match a with
  | ⟨0, _⟩ => show win0_2.index t (0 : Fin 2) * 7168 + 1 * r.val = r.val; omega
  | ⟨1, _⟩ => show win0_2.index t (1 : Fin 2) * 512 + 1 * q.val = t.val * 512 + q.val; rw [e1]; omega

/-- The same of the column scales, -/
theorem emb3 (t : Fin cfg0.N) (r : Fin 1) (q : Fin 512) :
    ((cfg0.win 3).blk t).view.emb (ix2 r q) = ix2 r (col t q) := by
  obtain ⟨e0, e1⟩ := (idx_facts t).2.2.2.1
  funext a; apply Fin.ext
  match a with
  | ⟨0, _⟩ => show win0_3.index t (0 : Fin 2) * 1 + 1 * r.val = r.val; omega
  | ⟨1, _⟩ => show win0_3.index t (1 : Fin 2) * 512 + 1 * q.val = t.val * 512 + q.val; rw [e1]; omega

/-- of the residual, -/
theorem emb4 (t : Fin cfg0.N) (r : Fin 256) (q : Fin 512) :
    ((cfg0.win 4).blk t).view.emb (ix2 r q) = ix2 r (col t q) := by
  obtain ⟨e0, e1⟩ := (idx_facts t).2.2.2.2.1
  funext a; apply Fin.ext
  match a with
  | ⟨0, _⟩ => show win0_4.index t (0 : Fin 2) * 256 + 1 * r.val = r.val; omega
  | ⟨1, _⟩ => show win0_4.index t (1 : Fin 2) * 512 + 1 * q.val = t.val * 512 + q.val; rw [e1]; omega

/-- and of the result. -/
theorem emb5 (t : Fin cfg0.N) (r : Fin 256) (q : Fin 512) :
    ((cfg0.win 5).blk t).view.emb (ix2 r q) = ix2 r (col t q) := by
  obtain ⟨e0, e1⟩ := (idx_facts t).2.2.2.2.2
  funext a; apply Fin.ext
  match a with
  | ⟨0, _⟩ => show win0_5.index t (0 : Fin 2) * 256 + 1 * r.val = r.val; omega
  | ⟨1, _⟩ => show win0_5.index t (1 : Fin 2) * 512 + 1 * q.val = t.val * 512 + q.val; rw [e1]; omega

/-! ## The result array of the pallas_call -/

/-- What the pallas_call's (256, 4096) result holds: element (r, n) is `entry` of row r, column n, their scales and the
    residual there. -/
def out (c : Dev nD) : Vec Ideal S256x4096 .bf16 := fun i =>
  Down.entry (fun k => argX m c (ix3 (0 : Fin 1) (i 0) k)) (fun k => argW m c (ix2 k (i 1)))
    (argXs m c (ix3 (0 : Fin 1) (i 0) (0 : Fin 1))) (argWs m c (ix1 (i 1))) (argR m c (ix3 (0 : Fin 1) (i 0) (i 1)))

/-- The origin of a two-axis array is the zero offset. -/
theorem hz : (![0, 0] : Fin 2 → Nat) = fun _ => 0 := funext fun a => by fin_cases a <;> rfl

/-- What point `t` writes back is block `t` of `out`. -/
theorem flushed_eq (c : Dev nD) (t : Fin cfg0.N) :
    (dats m 0 c).flushed 5 t = ((cfg0.win 5).blk t).view.read (Elt Ideal) (out m c) := by
  show (cfg0.win 5).cut (grid0.coords t) ((dats m 0 c).after 5 t) = _
  rw [after0_5]
  unfold out0_5
  rw [View.canon_unit_zero hz, View.ld_unit_zero (S := S256x7168) hz, View.ld_unit_zero (S := S7168x512) hz,
    View.ld_unit_zero (S := S256x1) hz, View.ld_unit_zero (S := S1x512) hz, View.ld_unit_zero (S := S256x512) hz]
  funext j
  obtain ⟨r, q, rfl⟩ : ∃ (r : Fin 256) (q : Fin 512), j = ix2 r q := ⟨j 0, j 1, eq_ix2 j⟩
  show k0_pay1 (F := Ideal) (iblk m c 0 t) (iblk m c 2 t) (iblk m c 1 t) (iblk m c 3 t) (iblk m c 4 t) (ix2 r q)
    = out m c (((cfg0.win 5).blk t).view.emb (ix2 r q))
  rw [Block.pay_apply, emb5]
  have h0 (k : Fin 7168) : iblk m c 0 t (ix2 r k) = argX m c (ix3 (0 : Fin 1) r k) := by
    show V m c main_v0 (((cfg0.win 0).blk t).view.emb (ix2 r k)) = _
    rw [emb0]; exact v0_apply m c r k
  have h1 : iblk m c 1 t (ix2 r (0 : Fin 1)) = argXs m c (ix3 (0 : Fin 1) r (0 : Fin 1)) := by
    show V m c main_v1 (((cfg0.win 1).blk t).view.emb (ix2 r (0 : Fin 1))) = _
    rw [emb1]; exact v1_apply m c r
  have h2 (k : Fin 7168) : iblk m c 2 t (ix2 k q) = argW m c (ix2 k (col t q)) := by
    show V m c main_arg2 (((cfg0.win 2).blk t).view.emb (ix2 k q)) = _
    rw [emb2, V_main_arg2]
  have h3 : iblk m c 3 t (ix2 (0 : Fin 1) q) = argWs m c (ix1 (col t q)) := by
    show V m c main_v2 (((cfg0.win 3).blk t).view.emb (ix2 (0 : Fin 1) q)) = _
    rw [emb3]; exact v2_apply m c (col t q)
  have h4 : iblk m c 4 t (ix2 r q) = argR m c (ix3 (0 : Fin 1) r (col t q)) := by
    show V m c main_v3 (((cfg0.win 4).blk t).view.emb (ix2 r q)) = _
    rw [emb4]; exact v3_apply m c r (col t q)
  simp only [h0, h1, h2, h3, h4]
  rfl

/-- Every element of the result is in the block of some grid point: column n in that of point n / 512. -/
theorem cover (i : S256x4096.Idx) :
    ∃ t : Fin cfg0.N, (cfg0.win 5).flush t = true ∧ i ∈ ((cfg0.win 5).blk t).view.set := by
  obtain ⟨r, n, rfl⟩ : ∃ (r : Fin 256) (n : Fin 4096), i = ix2 r n := ⟨i 0, i 1, eq_ix2 i⟩
  have ht : n.val / 512 < grid0.N := by rw [N_0]; omega
  let t : Fin cfg0.N := ⟨n.val / 512, ht⟩
  let q : Fin 512 := ⟨n.val % 512, Nat.mod_lt _ (by decide)⟩
  have hn : col t q = n := Fin.ext (Nat.div_add_mod' n.val 512)
  have h := ((cfg0.win 5).blk t).view.emb_mem_set (ix2 r q)
  rw [emb5, hn] at h
  exact ⟨t, flush0_5 t, h⟩

/-- So after the grid the pallas_call's result array is `out`. -/
theorem final (c : Dev nD) : (dats m 0 c).arrAt 5 cfg0.N = out m c :=
  (dats m 0 c).arrAt_eq_of_cover 5 (out m c) (fun t _ => flushed_eq m c t) cover

/-! ## The program's result -/

/-- What the program's (1, 256, 4096) result holds: `entry` at every element. -/
def result (c : Dev nD) : Vec Ideal S1x256x4096 .bf16 := fun i =>
  Down.entry (fun k => argX m c (ix3 (0 : Fin 1) (i 1) k)) (fun k => argW m c (ix2 k (i 2)))
    (argXs m c (ix3 (0 : Fin 1) (i 1) (0 : Fin 1))) (argWs m c (ix1 (i 2))) (argR m c (ix3 (0 : Fin 1) (i 1) (i 2)))

/-- The reshape after the pallas_call gives its result a batch axis, and so leaves `result`. -/
theorem tail_eq (c : Dev nD) : Pipeline.afterTail₀ cfgs (dats m) 0 (V0 m) [hostOps1] c main_v5 = result m c := by
  have h : Pipeline.afterTail₀ cfgs (dats m) 0 (V0 m) [hostOps1] c main_v5
      = shapeCast S1x256x4096 (out m c) shapeCasts_S256x4096_S1x256x4096 := by
    unfold Pipeline.afterTail₀
    simp only [hostOps1, List.flatten_cons, List.flatten_nil, List.append_nil]
    after_results
    have e := (Pipeline.withArrays_arr spec0 launch0.win.arr_inj c (V0 m c) (fun w => (dats m 0 c).arrAt w cfg0.N) 5).trans (final m c)
    exact congrArg (fun v : Vec Ideal S256x4096 .bf16 => shapeCast S1x256x4096 v shapeCasts_S256x4096_S1x256x4096) e
  rw [h]
  funext i
  obtain ⟨b, r, n, rfl⟩ : ∃ (b : Fin 1) (r : Fin 256) (n : Fin 4096), i = ix3 b r n := ⟨i 0, i 1, i 2, eq_ix3 i⟩
  pointwise [out, result]

/-- The run: the result array ends at `result`, and the arguments end as they were. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v5 (Pipeline.mem_restRefs_of main_v5 (by decide) (by decide))).trans (tail_eq m c), h.2 c⟩)
    (θ_run_and (run_main m ρ) (unchanged m ρ))

end Cert.KernelIdeal.Array

end
-- ==== Proof.Value.Whole.lean ====
/-
  What the reference computes: element (0, r, n) of its one (1, 256, 4096) result.
-/
module

public import proofs.«01_k».proof.Proof.Value.Entry
public import proofs.«01_k».proof.Proof.Gen.ReferenceIdeal.Skeleton
public import Idealize.ShloMosaic.Lib.Pointwise

@[expose] public section

set_option maxRecDepth 16384

noncomputable section

namespace Cert.ReferenceIdeal.Whole

open Cert.ReferenceIdeal Cert.ReferenceIdeal.Gen Idealize.ShloMosaic

/-- Over the extended reals, element (0, r, n) of the reference's result is `entry` of row (0, r) of the activations,
    column n of the weights, that row's scale, that column's scale and element (0, r, n) of the residual. -/
theorem pay_apply (x : Vec Ideal S1x256x7168 .fp8e4m3) (w : Vec Ideal S7168x4096 .fp8e4m3)
    (xs : Vec Ideal S1x256x1 .f32) (ws : Vec Ideal S4096 .f32) (res : Vec Ideal S1x256x4096 .bf16)
    (r : Fin 256) (n : Fin 4096) :
    k0_pay1 (F := Ideal) x w xs ws res (ix3 (0 : Fin 1) r n)
      = Down.entry (fun k => x (ix3 (0 : Fin 1) r k)) (fun k => w (ix2 k n)) (xs (ix3 (0 : Fin 1) r (0 : Fin 1))) (ws (ix1 n))
          (res (ix3 (0 : Fin 1) r n)) := by
  unfold Down.entry
  pointwise [k0_pay1]

end Cert.ReferenceIdeal.Whole

end
-- ==== Proof.Value.Equation.lean ====
/-
  The equation: from the same arguments, the kernel's result array and the reference's are the same array.
-/
module

public import proofs.«01_k».proof.Proof.Value.Array
public import proofs.«01_k».proof.Proof.Value.Whole
public import proofs.«01_k».proof.Proof.Gen.ReferenceIdeal.Value

@[expose] public section

set_option maxRecDepth 16384

noncomputable section

namespace Cert.Down

open Cert.KernelIdeal Cert.KernelIdeal.Array Idealize.ShloMosaic Idealize.ShloMosaic.TcCoe Idealize.SL.Sem

/-- Over the extended reals, the reference's function of the kernel's arguments is the kernel's result: both hold
    `entry` of the same row, column, scales and residual at every element. -/
theorem reference_eq (m : (ℓ : Loc nD τ sig) → Buf (Elt Ideal) ℓ) (c : Dev nD) :
    Cert.ReferenceIdeal.Value.G5 (F := Ideal) (argX m c) (argXs m c) (argW m c) (argWs m c) (argR m c) = result m c := by
  funext i
  obtain ⟨b, r, n, rfl⟩ : ∃ (b : Fin 1) (r : Fin 256) (n : Fin 4096), i = ix3 b r n := ⟨i 0, i 1, i 2, eq_ix3 i⟩
  obtain rfl : b = 0 := Subsingleton.elim _ _
  exact Cert.ReferenceIdeal.Whole.pay_apply (argX m c) (argW m c) (argXs m c) (argWs m c) (argR m c) r n

end Cert.Down

end
-- ==== Proof.lean ====
/-
  The proof of the claim. The three frames are the runs of the three programs; the kernel over the extended reals is
  the kernel with its formats read as extended reals; and that kernel computes what the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- From the same arguments the kernel and the reference, both over the extended reals, end with the same result
    array, and each leaves its arguments as they were. -/
theorem algebraic : Cert.algebraic_KernelIdeal_ReferenceIdeal := by
  intro m g m' g' _ heq
  refine ⟨fun c => Cert.KernelIdeal.Array.result m c, Cert.KernelIdeal.Array.run m g, ?_⟩
  refine (θ_run _ _ _).mono (fun r h c => ⟨(h c).1.trans ?_, (h c).2⟩) (Cert.ReferenceIdeal.Value.run m' g')
  obtain ⟨e0, e1, e2, e3, e4⟩ := heq c
  rw [e0, e1, e2, e3, e4]
  exact Cert.Down.reference_eq m c

/-- All five claims: the kernel, the kernel over the extended reals and the reference each run to the end without a
    fault, leaving their arguments unchanged and every semaphore at zero; the two kernels are the same program up to
    the reading of its numbers; and the kernel over the extended reals computes what the reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
